-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_without_biases [hPre_finite_without_biases : Cert.Pre_finite_without_biases.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_without_biases [hPre_finite_without_biases : Cert.Pre_finite_without_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_without_biases [hKernelIdeal : Cert.KernelIdeal.Facts] [hPre_finite_without_biases : Cert.Pre_finite_without_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_without_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_without_biases [hReferenceIdeal : Cert.ReferenceIdeal.Facts] [hPre_finite_without_biases : Cert.Pre_finite_without_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_without_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_without_biases [hKernelIdeal : Cert.KernelIdeal.Facts] [hReferenceIdeal : Cert.ReferenceIdeal.Facts] [hPre_finite_without_biases : Cert.Pre_finite_without_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_without_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_without_biases : Cert.Pre_finite_without_biases.Facts),
    quiescent_Kernel (hKernel := hKernel)
    ∧ quiescent_KernelIdeal (hKernelIdeal := hKernelIdeal)
    ∧ quiescent_KernelIdeal_pre_finite_without_biases (hKernelIdeal := hKernelIdeal) (hPre_finite_without_biases := hPre_finite_without_biases)
    ∧ quiescent_ReferenceIdeal (hReferenceIdeal := hReferenceIdeal)
    ∧ quiescent_ReferenceIdeal_pre_finite_without_biases (hReferenceIdeal := hReferenceIdeal) (hPre_finite_without_biases := hPre_finite_without_biases)
    ∧ preserves_Kernel_KernelIdeal
    ∧ algebraic_KernelIdeal_ReferenceIdeal_pre_finite_without_biases (hKernelIdeal := hKernelIdeal) (hReferenceIdeal := hReferenceIdeal) (hPre_finite_without_biases := hPre_finite_without_biases)
-- ==== Pre_finite_without_biases.lean ====
abbrev S4096x101 : Shape := ⟨2, ![4096, 101]⟩
abbrev S4096x128 : Shape := ⟨2, ![4096, 128]⟩
abbrev S_ : Shape := ⟨0, ![]⟩
abbrev S130x200 : Shape := ⟨2, ![130, 200]⟩
abbrev S200 : Shape := ⟨1, ![200]⟩
abbrev S200x1 : Shape := ⟨2, ![200, 1]⟩
abbrev S1 : Shape := ⟨1, ![1]⟩

class Facts : Prop where
  bcast_S_S4096x101 : S_.BroadcastsInDim S4096x101 (![] : Fin 0 → Fin S4096x101.rank)
  reducesTo_S4096x101_S_d0_1 : S4096x101.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S130x200 : S_.BroadcastsInDim S130x200 (![] : Fin 0 → Fin S130x200.rank)
  reducesTo_S130x200_S_d0_1 : S130x200.ReducesTo [0, 1] S_
  bcast_S_S200x1 : S_.BroadcastsInDim S200x1 (![] : Fin 0 → Fin S200x1.rank)
  reducesTo_S200x1_S_d0_1 : S200x1.ReducesTo [0, 1] S_
  bcast_S_S200 : S_.BroadcastsInDim S200 (![] : Fin 0 → Fin S200.rank)
  reducesTo_S200_S_d0 : S200.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S200 .f32) (main_arg7 : FVec F S1 .f32) (main_v13 : IVec S_ 1) (main_v16 : IVec S200x1 1) : IVec S_ 1 :=
  let main_c_5 : IVec S_ 1 := constantI S_ 1 1#1
  let main_v17 : IVec S_ 1 := (fun x v => Host.reduce IntOp.andi x v reducesTo_S200x1_S_d0_1 h_S_) main_v16 main_c_5
  let main_v18 : IVec S_ 1 := andi main_v13 main_v17
  let main_cst_6 : FVec F S_ .f32 := constant S_ .f32 0x00000000#32
  let main_v19 : FVec F S200 .f32 := broadcastInDim S200 ![] bcast_S_S200 main_cst_6
  let main_v20 : IVec S200 1 := cmpf .oeq main_arg5 main_v19
  let main_c_7 : IVec S_ 1 := constantI S_ 1 1#1
  let main_v21 : IVec S_ 1 := (fun x v => Host.reduce IntOp.andi x v reducesTo_S200_S_d0 h_S_) main_v20 main_c_7
  let main_v22 : IVec S_ 1 := andi main_v18 main_v21
  let main_cst_8 : FVec F S_ .f32 := constant S_ .f32 0x00000000#32
  let main_v23 : FVec F S1 .f32 := broadcastInDim S1 ![] bcast_S_S1 main_cst_8
  let main_v24 : IVec S1 1 := cmpf .oeq main_arg7 main_v23
  let main_c_9 : IVec S_ 1 := constantI S_ 1 1#1
  let main_v25 : IVec S_ 1 := (fun x v => Host.reduce IntOp.andi x v reducesTo_S1_S_d0 h_S_) main_v24 main_c_9
  let main_v26 : IVec S_ 1 := andi main_v22 main_v25
  main_v26

def fn {F : FTy → Type} [FloatOps F] (main_arg0 : FVec F S4096x101 .f32) (main_arg1 : FVec F S4096x128 .f32) (main_arg2 : IVec S4096x101 1) (main_arg3 : IVec S_ 32) (main_arg4 : FVec F S130x200 .f32) (main_arg5 : FVec F S200 .f32) (main_arg6 : FVec F S200x1 .f32) (main_arg7 : FVec F S1 .f32) : IVec S_ 1 :=
  let main_v0 : FVec F S4096x101 .f32 := Host.absf main_arg0
  let main_cst : FVec F S_ .f32 := constant S_ .f32 0x7F800000#32
  let main_v1 : FVec F S4096x101 .f32 := broadcastInDim S4096x101 ![] bcast_S_S4096x101 main_cst
  let main_v2 : IVec S4096x101 1 := cmpf .olt main_v0 main_v1
  let main_c : IVec S_ 1 := constantI S_ 1 1#1
  let main_v3 : IVec S_ 1 := (fun x v => Host.reduce IntOp.andi x v reducesTo_S4096x101_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S130x200 .f32 := Host.absf main_arg4
  let main_cst_2 : FVec F S_ .f32 := constant S_ .f32 0x7F800000#32
  let main_v10 : FVec F S130x200 .f32 := broadcastInDim S130x200 ![] bcast_S_S130x200 main_cst_2
  let main_v11 : IVec S130x200 1 := cmpf .olt main_v9 main_v10
  let main_c_3 : IVec S_ 1 := constantI S_ 1 1#1
  let main_v12 : IVec S_ 1 := (fun x v => Host.reduce IntOp.andi x v reducesTo_S130x200_S_d0_1 h_S_) main_v11 main_c_3
  let main_v13 : IVec S_ 1 := andi main_v8 main_v12
  let main_v14 : FVec F S200x1 .f32 := Host.absf main_arg6
  let main_cst_4 : FVec F S_ .f32 := constant S_ .f32 0x7F800000#32
  let main_v15 : FVec F S200x1 .f32 := broadcastInDim S200x1 ![] bcast_S_S200x1 main_cst_4
  let main_v16 : IVec S200x1 1 := cmpf .olt main_v14 main_v15
  fn_part1 (F := F) main_arg5 main_arg7 main_v13 main_v16
-- ==== Kernel.lean ====
abbrev S4096x101 : Shape := ⟨2, ![4096, 101]⟩
abbrev S4096x128 : Shape := ⟨2, ![4096, 128]⟩
abbrev S_ : Shape := ⟨0, ![]⟩
abbrev S130x200 : Shape := ⟨2, ![130, 200]⟩
abbrev S200 : Shape := ⟨1, ![200]⟩
abbrev S200x1 : Shape := ⟨2, ![200, 1]⟩
abbrev S1 : Shape := ⟨1, ![1]⟩
abbrev S1x1 : Shape := ⟨2, ![1, 1]⟩
abbrev S4096x1 : Shape := ⟨2, ![4096, 1]⟩
abbrev S256x101 : Shape := ⟨2, ![256, 101]⟩
abbrev S256x128 : Shape := ⟨2, ![256, 128]⟩
abbrev S256x1 : Shape := ⟨2, ![256, 1]⟩
abbrev S256x3 : Shape := ⟨2, ![256, 3]⟩
abbrev S256x104 : Shape := ⟨2, ![256, 104]⟩
abbrev S256x104x1 : Shape := ⟨3, ![256, 104, 1]⟩
abbrev S256x1x128 : Shape := ⟨3, ![256, 1, 128]⟩
abbrev S256x104x128 : Shape := ⟨3, ![256, 104, 128]⟩
abbrev S256x104x130 : Shape := ⟨3, ![256, 104, 130]⟩
abbrev S256x104x200 : Shape := ⟨3, ![256, 104, 200]⟩
abbrev S1x1x200 : Shape := ⟨3, ![1, 1, 200]⟩
abbrev S256 : Shape := ⟨1, ![256]⟩
abbrev S4096 : Shape := ⟨1, ![4096]⟩

abbrev nBuf : Space → Nat
  | .hbm => 18
  | .vmem => 15
  | .smem => 0
  | _ => 0

abbrev bufTy : (tb : Table) → Fin (tcTables nBuf tb) → BufTy
  | .hbm, ⟨0, _⟩ => ⟨S4096x101, .f32⟩
  | .hbm, ⟨1, _⟩ => ⟨S4096x128, .f32⟩
  | .hbm, ⟨2, _⟩ => ⟨S4096x101, .i1⟩
  | .hbm, ⟨3, _⟩ => ⟨S_, .i32⟩
  | .hbm, ⟨4, _⟩ => ⟨S130x200, .f32⟩
  | .hbm, ⟨5, _⟩ => ⟨S200, .f32⟩
  | .hbm, ⟨6, _⟩ => ⟨S200x1, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x101, .i32⟩
  | .hbm, ⟨13, _⟩ => ⟨S4096x101, .f32⟩
  | .hbm, ⟨14, _⟩ => ⟨S4096x1, .i32⟩
  | .hbm, ⟨15, _⟩ => ⟨S4096x1, .f32⟩
  | .hbm, ⟨16, _⟩ => ⟨S4096, .i32⟩
  | .hbm, ⟨17, _⟩ => ⟨S4096, .f32⟩
  | .local _ .vmem, ⟨0, _⟩ => ⟨S1x1, .f32⟩
  | .local _ .vmem, ⟨1, _⟩ => ⟨S256x101, .f32⟩
  | .local _ .vmem, ⟨2, _⟩ => ⟨S256x101, .f32⟩
  | .local _ .vmem, ⟨3, _⟩ => ⟨S256x128, .f32⟩
  | .local _ .vmem, ⟨4, _⟩ => ⟨S256x128, .f32⟩
  | .local _ .vmem, ⟨5, _⟩ => ⟨S256x101, .i32⟩
  | .local _ .vmem, ⟨6, _⟩ => ⟨S256x101, .i32⟩
  | .local _ .vmem, ⟨7, _⟩ => ⟨S130x200, .f32⟩
  | .local _ .vmem, ⟨8, _⟩ => ⟨S200x1, .f32⟩
  | .local _ .vmem, ⟨9, _⟩ => ⟨S256x101, .f32⟩
  | .local _ .vmem, ⟨10, _⟩ => ⟨S256x101, .f32⟩
  | .local _ .vmem, ⟨11, _⟩ => ⟨S256x1, .i32⟩
  | .local _ .vmem, ⟨12, _⟩ => ⟨S256x1, .i32⟩
  | .local _ .vmem, ⟨13, _⟩ => ⟨S256x1, .f32⟩
  | .local _ .vmem, ⟨14, _⟩ => ⟨S256x1, .f32⟩
  | _, _ => ⟨S4096x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x101 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x101 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S130x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x101 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x101 : Shape := ⟨2, ![4096, 101]⟩
abbrev S4096x128 : Shape := ⟨2, ![4096, 128]⟩
abbrev S_ : Shape := ⟨0, ![]⟩
abbrev S130x200 : Shape := ⟨2, ![130, 200]⟩
abbrev S200 : Shape := ⟨1, ![200]⟩
abbrev S200x1 : Shape := ⟨2, ![200, 1]⟩
abbrev S1 : Shape := ⟨1, ![1]⟩
abbrev S4096x101x1 : Shape := ⟨3, ![4096, 101, 1]⟩
abbrev S4096x1x128 : Shape := ⟨3, ![4096, 1, 128]⟩
abbrev S4096x101x128 : Shape := ⟨3, ![4096, 101, 128]⟩
abbrev S4096x101x130 : Shape := ⟨3, ![4096, 101, 130]⟩
abbrev S4096x101x200 : Shape := ⟨3, ![4096, 101, 200]⟩
abbrev S1x1x200 : Shape := ⟨3, ![1, 1, 200]⟩
abbrev S1x1x1 : Shape := ⟨3, ![1, 1, 1]⟩
abbrev S4096 : Shape := ⟨1, ![4096]⟩
abbrev S4096x1 : Shape := ⟨2, ![4096, 1]⟩
abbrev S4096x1x1 : Shape := ⟨3, ![4096, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x101, .f32⟩
  | .hbm, ⟨1, _⟩ => ⟨S4096x128, .f32⟩
  | .hbm, ⟨2, _⟩ => ⟨S4096x101, .i1⟩
  | .hbm, ⟨3, _⟩ => ⟨S_, .i32⟩
  | .hbm, ⟨4, _⟩ => ⟨S130x200, .f32⟩
  | .hbm, ⟨5, _⟩ => ⟨S200, .f32⟩
  | .hbm, ⟨6, _⟩ => ⟨S200x1, .f32⟩
  | .hbm, ⟨7, _⟩ => ⟨S1, .f32⟩
  | .hbm, ⟨8, _⟩ => ⟨S4096x101x1, .f32⟩
  | .hbm, ⟨9, _⟩ => ⟨S_, .f32⟩
  | .hbm, ⟨10, _⟩ => ⟨S4096x101x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x101x1, .f32⟩
  | .hbm, ⟨15, _⟩ => ⟨S4096x101x1, .f32⟩
  | .hbm, ⟨16, _⟩ => ⟨S4096x1x128, .f32⟩
  | .hbm, ⟨17, _⟩ => ⟨S4096x101x128, .f32⟩
  | .hbm, ⟨18, _⟩ => ⟨S4096x101x130, .f32⟩
  | .hbm, ⟨19, _⟩ => ⟨S4096x101x200, .f32⟩
  | .hbm, ⟨20, _⟩ => ⟨S1x1x200, .f32⟩
  | .hbm, ⟨21, _⟩ => ⟨S4096x101x200, .f32⟩
  | .hbm, ⟨22, _⟩ => ⟨S4096x101x200, .f32⟩
  | .hbm, ⟨23, _⟩ => ⟨S_, .f32⟩
  | .hbm, ⟨24, _⟩ => ⟨S4096x101x200, .f32⟩
  | .hbm, ⟨25, _⟩ => ⟨S4096x101x200, .f32⟩
  | .hbm, ⟨26, _⟩ => ⟨S4096x101x1, .f32⟩
  | .hbm, ⟨27, _⟩ => ⟨S1x1x1, .f32⟩
  | .hbm, ⟨28, _⟩ => ⟨S4096x101x1, .f32⟩
  | .hbm, ⟨29, _⟩ => ⟨S4096x101x1, .f32⟩
  | .hbm, ⟨30, _⟩ => ⟨S4096x101, .f32⟩
  | .hbm, ⟨31, _⟩ => ⟨S_, .f32⟩
  | .hbm, ⟨32, _⟩ => ⟨S4096x101, .f32⟩
  | .hbm, ⟨33, _⟩ => ⟨S4096x101, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x101, .f32⟩
  | .hbm, ⟨41, _⟩ => ⟨S4096x101, .f32⟩
  | .hbm, ⟨42, _⟩ => ⟨S4096x101, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1, .f32⟩
  | .hbm, ⟨47, _⟩ => ⟨S4096x101, .f32⟩
  | .hbm, ⟨48, _⟩ => ⟨S4096x101, .f32⟩
  | .hbm, ⟨49, _⟩ => ⟨S4096x101, .i32⟩
  | .hbm, ⟨50, _⟩ => ⟨S_, .f32⟩
  | .hbm, ⟨51, _⟩ => ⟨S_, .i32⟩
  | .hbm, ⟨52, _⟩ => ⟨S4096, .f32⟩
  | .hbm, ⟨53, _⟩ => ⟨S4096, .i32⟩
  | .hbm, ⟨54, _⟩ => ⟨S4096x1, .i32⟩
  | .hbm, ⟨55, _⟩ => ⟨S_, .i32⟩
  | .hbm, ⟨56, _⟩ => ⟨S4096x1, .i32⟩
  | .hbm, ⟨57, _⟩ => ⟨S4096x1, .i1⟩
  | .hbm, ⟨58, _⟩ => ⟨S_, .i32⟩
  | .hbm, ⟨59, _⟩ => ⟨S4096x1, .i32⟩
  | .hbm, ⟨60, _⟩ => ⟨S4096x1, .i32⟩
  | .hbm, ⟨61, _⟩ => ⟨S4096x1, .i32⟩
  | .hbm, ⟨62, _⟩ => ⟨S4096x1x1, .i32⟩
  | .hbm, ⟨63, _⟩ => ⟨S1, .i32⟩
  | .hbm, ⟨64, _⟩ => ⟨S_, .i32⟩
  | .hbm, ⟨65, _⟩ => ⟨S4096x1x1, .i32⟩
  | .hbm, ⟨66, _⟩ => ⟨S4096x1x1, .i1⟩
  | .hbm, ⟨67, _⟩ => ⟨S1x1x1, .i32⟩
  | .hbm, ⟨68, _⟩ => ⟨S4096x1x1, .i32⟩
  | .hbm, ⟨69, _⟩ => ⟨S4096x1x1, .i1⟩
  | .hbm, ⟨70, _⟩ => ⟨S4096x1x1, .i1⟩
  | .hbm, ⟨71, _⟩ => ⟨S_, .i1⟩
  | .hbm, ⟨72, _⟩ => ⟨S4096x1, .i1⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096, .f32⟩
  | _, _ => ⟨S4096x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call0_v0 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v21 : Ref sig .tc := ⟨.hbm, 48, rfl⟩
abbrev main_call2_v0 : Ref sig .tc := ⟨.hbm, 49, rfl⟩
abbrev main_call2_cst : Ref sig .tc := ⟨.hbm, 50, rfl⟩
abbrev main_call2_c : Ref sig .tc := ⟨.hbm, 51, rfl⟩
abbrev main_call2_v1_0 : Ref sig .tc := ⟨.hbm, 52, rfl⟩
abbrev main_v22 : Ref sig .tc := ⟨.hbm, 53, rfl⟩
abbrev main_v23 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v24 : Ref sig .tc := ⟨.hbm, 76, rfl⟩
abbrev main_v25 : Ref sig .tc := ⟨.hbm, 77, rfl⟩

abbrev nD : Nat := 1
abbrev τ : Topo := Topo.v7x

variable {F : FTy → Type} [FloatOps F]
-- ==== Proof.RefRun.lean ====
/- The reference program's run: what its three result arrays hold, as terms over the argument arrays. -/
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

namespace Cert.Proof.Ref

open Idealize.ShloMosaic Idealize.ShloMosaic.TcCoe Idealize.SL.Sem
open Cert.ReferenceIdeal Cert.ReferenceIdeal.Facts₀ Cert.ReferenceIdeal.Facts

/-- The masked scores as the reference composes them from its arguments. -/
def scores (w : FVec Ideal S4096x101 .f32) (e : FVec Ideal S4096x128 .f32) (mk : IVec S4096x101 1) (i : IVec S_ 32)
    (W1 : FVec Ideal S130x200 .f32) (b1 : FVec Ideal S200 .f32) (W2 : FVec Ideal S200x1 .f32) (b2 : FVec Ideal S1 .f32) :
    FVec Ideal S4096x101 .f32 :=
  let ones : FVec Ideal S4096x101x1 .f32 := broadcastInDim S4096x101x1 ![] bcast_S_S4096x101x1 (constant (F := Ideal) S_ .f32 0x3F800000#32)
  let share : FVec Ideal S_ .f32 := Host.divf (sitofp .f32 i) (constant (F := Ideal) S_ .f32 0x42C80000#32)
  let s : FVec Ideal S4096x101x130 .f32 := concatenate S4096x101x130 2
    [⟨S4096x101x1, broadcastInDim S4096x101x1 ![0, 1] bcast_S4096x101_S4096x101x1_0_1 w⟩,
     ⟨S4096x101x1, mulf ones (broadcastInDim S4096x101x1 ![] bcast_S_S4096x101x1 share)⟩,
     ⟨S4096x101x128, broadcastInDim S4096x101x128 ![0, 1, 2] bcast_S4096x1x128_S4096x101x128_0_1_2
        (broadcastInDim S4096x1x128 ![0, 2] bcast_S4096x128_S4096x1x128_0_2 e)⟩]
    concatenates_S4096x101x1_S4096x101x1_S4096x101x128_S4096x101x130_d2
  let h : FVec Ideal S4096x101x200 .f32 := maximumf
    (addf (Host.dotGeneral dot_S4096x101x130_S130x200_S4096x101x200_2_0_01_1_n_n none s W1)
      (broadcastInDim S4096x101x200 ![0, 1, 2] bcast_S1x1x200_S4096x101x200_0_1_2
        (broadcastInDim S1x1x200 ![2] bcast_S200_S1x1x200_2 b1)))
    (broadcastInDim S4096x101x200 ![] bcast_S_S4096x101x200 (constant (F := Ideal) S_ .f32 0x00000000#32))
  let o : FVec Ideal S4096x101x1 .f32 := addf
    (Host.dotGeneral dot_S4096x101x200_S200x1_S4096x101x1_2_0_01_1_n_n none h W2)
    (broadcastInDim S4096x101x1 ![0, 1, 2] bcast_S1x1x1_S4096x101x1_0_1_2
      (broadcastInDim S1x1x1 ![2] bcast_S1_S1x1x1_2 b2))
  select mk (broadcastInDim S4096x101 ![] bcast_S_S4096x101 (constant (F := Ideal) S_ .f32 0xC9742400#32))
    (shapeCast S4096x101 o shapeCasts_S4096x101x1_S4096x101)

/-- The scores less their row's maximum. -/
def centred (s : FVec Ideal S4096x101 .f32) : FVec Ideal S4096x101 .f32 :=
  subf s (broadcastInDim S4096x101 ![0, 1] bcast_S4096x1_S4096x101_0_1
    (broadcastInDim S4096x1 ![0] bcast_S4096_S4096x1_0
      (maximumf (broadcastInDim S4096 ![] bcast_S_S4096 (constant (F := Ideal) S_ .f32 0xFF800000#32))
        (Host.reduce FloatOps.maximumf s (constant (F := Ideal) S_ .f32 0xFF800000#32) reducesTo_S4096x101_S4096_d1 h_S_))))

/-- The logarithm of the softmax of every row. -/
def logSoftmax (s : FVec Ideal S4096x101 .f32) : FVec Ideal S4096x101 .f32 :=
  subf (centred s) (broadcastInDim S4096x101 ![0, 1] bcast_S4096x1_S4096x101_0_1
    (Host.log (broadcastInDim S4096x1 ![0] bcast_S4096_S4096x1_0
      (Host.reduceAdd (Host.exp (centred s)) (constant (F := Ideal) S_ .f32 0x00000000#32) reducesTo_S4096x101_S4096_d1 h_S_))))

/-- The place of every row's largest entry. -/
def argmax (p : FVec Ideal S4096x101 .f32) : IVec S4096 32 := fun j =>
  (Host.argReduce reducer_argmax_f32_i32 p (iotaInDim S4096x101 32 1) (constant (F := Ideal) S_ .f32 0xFF800000#32)
    (constantI S_ 32 0#32) reducesTo_S4096x101_S4096_d1 h_S_ j).2

/-- The place looked up in every row, a negative one counted from the row's end. -/
def place (q : IVec S4096 32) : IVec S4096x1x1 32 :=
  let k : IVec S4096x1 32 := broadcastInDim S4096x1 ![0] bcast_S4096_S4096x1_0 q
  shapeCast S4096x1x1 (select (cmpi .slt k (broadcastInDim S4096x1 ![] bcast_S_S4096x1 (constantI S_ 32 0#32)))
      (addi k (broadcastInDim S4096x1 ![] bcast_S_S4096x1 (constantI S_ 32 101#32))) k)
    shapeCasts_S4096x1_S4096x1x1

/-- Every row's entry at the place looked up, not-a-number where that place lies outside the row. -/
def take (p : FVec Ideal S4096x101 .f32) (q : IVec S4096 32) : FVec Ideal S4096 .f32 :=
  shapeCast S4096 (select
      (Host.reduce IntOp.andi
        (andi (cmpi .sge (place q) (broadcastInDim S4096x1x1 ![] bcast_S_S4096x1x1 (constantI S_ 32 0#32)))
          (cmpi .sle (place q) (broadcastInDim S4096x1x1 ![0, 1, 2] bcast_S1x1x1_S4096x1x1_0_1_2
            (broadcastInDim S1x1x1 ![2] bcast_S1_S1x1x1_2 (constantI S1 32 100#32)))))
        (constantI S_ 1 1#1) reducesTo_S4096x1x1_S4096x1_d2 h_S_)
      (Host.gather gather_S4096x101_S4096x1x1_S4096x1_n_1_0_0_1_2_11 p (place q))
      (broadcastInDim S4096x1 ![] bcast_S_S4096x1 (constant (F := Ideal) S_ .f32 0x7FC00000#32)))
    shapeCasts_S4096x1_S4096

/-- The first result over the argument arrays. -/
def logP (m : (ℓ : Loc nD τ sig) → Buf (Elt Ideal) ℓ) (c : Dev nD) : FVec Ideal S4096x101 .f32 :=
  logSoftmax (scores (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)))

/-- The operations up to the masked scores. -/
def opsScores {F : FTy → Type} [FloatOps F] : List (HloOp τ sig (Elt F)) := [
  StableHlo.unary main_arg0 main_v0 (broadcastInDim S4096x101x1 ![0, 1] bcast_S4096x101_S4096x101x1_0_1 : (⟨S4096x101, .f32⟩ : BufTy).Contents (Elt F) → (⟨S4096x101x1, .f32⟩ : BufTy).Contents (Elt F)),
  StableHlo.nullary main_cst (constant S_ .f32 0x3F800000#32),
  StableHlo.unary main_cst main_v1 (broadcastInDim S4096x101x1 ![] bcast_S_S4096x101x1 : (⟨S_, .f32⟩ : BufTy).Contents (Elt F) → (⟨S4096x101x1, .f32⟩ : BufTy).Contents (Elt F)),
  StableHlo.unary main_arg3 main_v2 (sitofp .f32 : (⟨S_, .i32⟩ : BufTy).Contents (Elt F) → (⟨S_, .f32⟩ : BufTy).Contents (Elt F)),
  StableHlo.nullary main_cst_0 (constant S_ .f32 0x42C80000#32),
  StableHlo.binary main_v2 main_cst_0 main_v3 (Host.divf : (⟨S_, .f32⟩ : BufTy).Contents (Elt F) → (⟨S_, .f32⟩ : BufTy).Contents (Elt F) → (⟨S_, .f32⟩ : BufTy).Contents (Elt F)),
  StableHlo.unary main_v3 main_v4 (broadcastInDim S4096x101x1 ![] bcast_S_S4096x101x1 : (⟨S_, .f32⟩ : BufTy).Contents (Elt F) → (⟨S4096x101x1, .f32⟩ : BufTy).Contents (Elt F)),
  StableHlo.binary main_v1 main_v4 main_v5 (mulf : (⟨S4096x101x1, .f32⟩ : BufTy).Contents (Elt F) → (⟨S4096x101x1, .f32⟩ : BufTy).Contents (Elt F) → (⟨S4096x101x1, .f32⟩ : BufTy).Contents (Elt F)),
  StableHlo.unary main_arg1 main_v6 (broadcastInDim S4096x1x128 ![0, 2] bcast_S4096x128_S4096x1x128_0_2 : (⟨S4096x128, .f32⟩ : BufTy).Contents (Elt F) → (⟨S4096x1x128, .f32⟩ : BufTy).Contents (Elt F)),
  StableHlo.unary main_v6 main_v7 (broadcastInDim S4096x101x128 ![0, 1, 2] bcast_S4096x1x128_S4096x101x128_0_1_2 : (⟨S4096x1x128, .f32⟩ : BufTy).Contents (Elt F) → (⟨S4096x101x128, .f32⟩ : BufTy).Contents (Elt F)),
  StableHlo.nary ![main_v0, main_v5, main_v7] main_v8 (fun u => (concatenate S4096x101x130 2 [⟨S4096x101x1, (u 0 : (⟨S4096x101x1, .f32⟩ : BufTy).Contents (Elt F))⟩, ⟨S4096x101x1, (u 1 : (⟨S4096x101x1, .f32⟩ : BufTy).Contents (Elt F))⟩, ⟨S4096x101x128, (u 2 : (⟨S4096x101x128, .f32⟩ : BufTy).Contents (Elt F))⟩] concatenates_S4096x101x1_S4096x101x1_S4096x101x128_S4096x101x130_d2 : (⟨S4096x101x130, .f32⟩ : BufTy).Contents (Elt F))),
  StableHlo.binary main_v8 main_arg4 main_v9 ((fun l r => Host.dotGeneral dot_S4096x101x130_S130x200_S4096x101x200_2_0_01_1_n_n none l r) : (⟨S4096x101x130, .f32⟩ : BufTy).Contents (Elt F) → (⟨S130x200, .f32⟩ : BufTy).Contents (Elt F) → (⟨S4096x101x200, .f32⟩ : BufTy).Contents (Elt F)),
  StableHlo.unary main_arg5 main_v10 (broadcastInDim S1x1x200 ![2] bcast_S200_S1x1x200_2 : (⟨S200, .f32⟩ : BufTy).Contents (Elt F) → (⟨S1x1x200, .f32⟩ : BufTy).Contents (Elt F)),
  StableHlo.unary main_v10 main_v11 (broadcastInDim S4096x101x200 ![0, 1, 2] bcast_S1x1x200_S4096x101x200_0_1_2 : (⟨S1x1x200, .f32⟩ : BufTy).Contents (Elt F) → (⟨S4096x101x200, .f32⟩ : BufTy).Contents (Elt F)),
  StableHlo.binary main_v9 main_v11 main_v12 (addf : (⟨S4096x101x200, .f32⟩ : BufTy).Contents (Elt F) → (⟨S4096x101x200, .f32⟩ : BufTy).Contents (Elt F) → (⟨S4096x101x200, .f32⟩ : BufTy).Contents (Elt F)),
  StableHlo.nullary main_cst_1 (constant S_ .f32 0x00000000#32),
  StableHlo.unary main_cst_1 main_v13 (broadcastInDim S4096x101x200 ![] bcast_S_S4096x101x200 : (⟨S_, .f32⟩ : BufTy).Contents (Elt F) → (⟨S4096x101x200, .f32⟩ : BufTy).Contents (Elt F)),
  StableHlo.binary main_v12 main_v13 main_v14 (maximumf : (⟨S4096x101x200, .f32⟩ : BufTy).Contents (Elt F) → (⟨S4096x101x200, .f32⟩ : BufTy).Contents (Elt F) → (⟨S4096x101x200, .f32⟩ : BufTy).Contents (Elt F)),
  StableHlo.binary main_v14 main_arg6 main_v15 ((fun l r => Host.dotGeneral dot_S4096x101x200_S200x1_S4096x101x1_2_0_01_1_n_n none l r) : (⟨S4096x101x200, .f32⟩ : BufTy).Contents (Elt F) → (⟨S200x1, .f32⟩ : BufTy).Contents (Elt F) → (⟨S4096x101x1, .f32⟩ : BufTy).Contents (Elt F)),
  StableHlo.unary main_arg7 main_v16 (broadcastInDim S1x1x1 ![2] bcast_S1_S1x1x1_2 : (⟨S1, .f32⟩ : BufTy).Contents (Elt F) → (⟨S1x1x1, .f32⟩ : BufTy).Contents (Elt F)),
  StableHlo.unary main_v16 main_v17 (broadcastInDim S4096x101x1 ![0, 1, 2] bcast_S1x1x1_S4096x101x1_0_1_2 : (⟨S1x1x1, .f32⟩ : BufTy).Contents (Elt F) → (⟨S4096x101x1, .f32⟩ : BufTy).Contents (Elt F)),
  StableHlo.binary main_v15 main_v17 main_v18 (addf : (⟨S4096x101x1, .f32⟩ : BufTy).Contents (Elt F) → (⟨S4096x101x1, .f32⟩ : BufTy).Contents (Elt F) → (⟨S4096x101x1, .f32⟩ : BufTy).Contents (Elt F)),
  StableHlo.reshape main_v18 main_v19 (rfl : (.f32 : EltTy) = .f32) shapeCasts_S4096x101x1_S4096x101,
  StableHlo.nullary main_cst_2 (constant S_ .f32 0xC9742400#32),
  StableHlo.TRef.unary (.of main_cst_2 : StableHlo.TRef sig ⟨S_, .f32⟩) main_call0.v0 (broadcastInDim S4096x101 ![] bcast_S_S4096x101),
  StableHlo.TRef.ternary (.of main_arg2 : StableHlo.TRef sig ⟨S4096x101, .i1⟩) main_call0.v0 (.of main_v19 : StableHlo.TRef sig ⟨S4096x101, .f32⟩) main_call0.v1 select]

/-- The operations of the log-softmax. -/
def opsSoftmax {F : FTy → Type} [FloatOps F] : List (HloOp τ sig (Elt F)) := [
  StableHlo.TRef.nullary main_call1.cst (constant S_ .f32 0xFF800000#32),
  StableHlo.TRef.binary (.of main_v20 : StableHlo.TRef sig ⟨S4096x101, .f32⟩) main_call1.cst main_call1.v0 (fun x v => Host.reduce FloatOps.maximumf x v reducesTo_S4096x101_S4096_d1 h_S_),
  StableHlo.TRef.nullary main_call1.cst_0 (constant S_ .f32 0xFF800000#32),
  StableHlo.TRef.unary main_call1.cst_0 main_call1.v1 (broadcastInDim S4096 ![] bcast_S_S4096),
  StableHlo.TRef.binary main_call1.v1 main_call1.v0 main_call1.v2 maximumf,
  StableHlo.TRef.unary main_call1.v2 main_call1.v3 (broadcastInDim S4096x1 ![0] bcast_S4096_S4096x1_0),
  StableHlo.TRef.unary main_call1.v3 main_call1.v4 (broadcastInDim S4096x101 ![0, 1] bcast_S4096x1_S4096x101_0_1),
  StableHlo.TRef.binary (.of main_v20 : StableHlo.TRef sig ⟨S4096x101, .f32⟩) main_call1.v4 main_call1.v5 subf,
  StableHlo.TRef.unary main_call1.v5 main_call1.v6 Host.exp,
  StableHlo.TRef.nullary main_call1.cst_1 (constant S_ .f32 0x00000000#32),
  StableHlo.TRef.binary main_call1.v6 main_call1.cst_1 main_call1.v7 (fun x v => Host.reduceAdd x v reducesTo_S4096x101_S4096_d1 h_S_),
  StableHlo.TRef.unary main_call1.v7 main_call1.v8 (broadcastInDim S4096x1 ![0] bcast_S4096_S4096x1_0),
  StableHlo.TRef.unary main_call1.v8 main_call1.v9 Host.log,
  StableHlo.TRef.unary main_call1.v9 main_call1.v10 (broadcastInDim S4096x101 ![0, 1] bcast_S4096x1_S4096x101_0_1),
  StableHlo.TRef.binary main_call1.v5 main_call1.v10 main_call1.v11 subf]

/-- The operations of the arg-max. -/
def opsArgmax {F : FTy → Type} [FloatOps F] : List (HloOp τ sig (Elt F)) := [
  StableHlo.TRef.nullary main_call2.v0 (iotaInDim S4096x101 32 1),
  StableHlo.TRef.nullary main_call2.cst (constant S_ .f32 0xFF800000#32),
  StableHlo.TRef.nullary main_call2.c (constantI S_ 32 0#32),
  StableHlo.TRef.quaternary (.of main_v21 : StableHlo.TRef sig ⟨S4096x101, .f32⟩) main_call2.v0 main_call2.cst main_call2.c main_call2.v1_0 (fun x y u v j => (Host.argReduce reducer_argmax_f32_i32 x y u v reducesTo_S4096x101_S4096_d1 h_S_ j).1),
  StableHlo.TRef.quaternary (.of main_v21 : StableHlo.TRef sig ⟨S4096x101, .f32⟩) main_call2.v0 main_call2.cst main_call2.c main_call2.v1_1 (fun x y u v j => (Host.argReduce reducer_argmax_f32_i32 x y u v reducesTo_S4096x101_S4096_d1 h_S_ j).2)]

/-- The operations of the lookup. -/
def opsTake {F : FTy → Type} [FloatOps F] : List (HloOp τ sig (Elt F)) := [
  StableHlo.unary main_v22 main_v23 (broadcastInDim S4096x1 ![0] bcast_S4096_S4096x1_0 : (⟨S4096, .i32⟩ : BufTy).Contents (Elt F) → (⟨S4096x1, .i32⟩ : BufTy).Contents (Elt F)),
  StableHlo.TRef.nullary main_call3.c (constantI S_ 32 0#32),
  StableHlo.TRef.unary main_call3.c main_call3.v0 (broadcastInDim S4096x1 ![] bcast_S_S4096x1),
  StableHlo.TRef.binary (.of main_v23 : StableHlo.TRef sig ⟨S4096x1, .i32⟩) main_call3.v0 main_call3.v1 (cmpi .slt),
  StableHlo.TRef.nullary main_call3.c_0 (constantI S_ 32 101#32),
  StableHlo.TRef.unary main_call3.c_0 main_call3.v2 (broadcastInDim S4096x1 ![] bcast_S_S4096x1),
  StableHlo.TRef.binary (.of main_v23 : StableHlo.TRef sig ⟨S4096x1, .i32⟩) main_call3.v2 main_call3.v3 addi,
  StableHlo.TRef.ternary main_call3.v1 main_call3.v3 (.of main_v23 : StableHlo.TRef sig ⟨S4096x1, .i32⟩) main_call3.v4 select,
  StableHlo.TRef.reshape main_call3.v4 main_call3.v5 (rfl : (.i32 : EltTy) = .i32) shapeCasts_S4096x1_S4096x1x1,
  StableHlo.TRef.nullary main_call3.c_1 (constantI S1 32 100#32),
  StableHlo.TRef.nullary main_call3.c_2 (constantI S_ 32 0#32),
  StableHlo.TRef.unary main_call3.c_2 main_call3.v6 (broadcastInDim S4096x1x1 ![] bcast_S_S4096x1x1),
  StableHlo.TRef.binary main_call3.v5 main_call3.v6 main_call3.v7 (cmpi .sge),
  StableHlo.TRef.unary main_call3.c_1 main_call3.v8 (broadcastInDim S1x1x1 ![2] bcast_S1_S1x1x1_2),
  StableHlo.TRef.unary main_call3.v8 main_call3.v9 (broadcastInDim S4096x1x1 ![0, 1, 2] bcast_S1x1x1_S4096x1x1_0_1_2),
  StableHlo.TRef.binary main_call3.v5 main_call3.v9 main_call3.v10 (cmpi .sle),
  StableHlo.TRef.binary main_call3.v7 main_call3.v10 main_call3.v11 andi,
  StableHlo.TRef.nullary main_call3.c_3 (constantI S_ 1 1#1),
  StableHlo.TRef.binary main_call3.v11 main_call3.c_3 main_call3.v12 (fun x v => Host.reduce IntOp.andi x v reducesTo_S4096x1x1_S4096x1_d2 h_S_),
  StableHlo.TRef.binary (.of main_v21 : StableHlo.TRef sig ⟨S4096x101, .f32⟩) main_call3.v5 main_call3.v13 (fun x i => Host.gather gather_S4096x101_S4096x1x1_S4096x1_n_1_0_0_1_2_11 x i),
  StableHlo.TRef.nullary main_call3.cst (constant S_ .f32 0x7FC00000#32),
  StableHlo.TRef.unary main_call3.cst main_call3.v14 (broadcastInDim S4096x1 ![] bcast_S_S4096x1),
  StableHlo.TRef.ternary main_call3.v12 main_call3.v13 main_call3.v14 main_call3.v15 select,
  StableHlo.reshape main_v24 main_v25 (rfl : (.f32 : EltTy) = .f32) shapeCasts_S4096x1_S4096]

/-- Two lines of operations one after the other. -/
theorem after_two (A B : List (HloOp τ sig (Elt Ideal))) (V : Valuation τ sig (Elt Ideal)) :
    StableHlo.after (A ++ B) V = StableHlo.after B (StableHlo.after A V) := by
  induction A generalizing V with
  | nil => rfl
  | cons o A ih => exact ih _

/-- What the program leaves is what its four parts leave in turn. -/
theorem after_parts (V : Valuation τ sig (Elt Ideal)) :
    StableHlo.after (opsScores (F := Ideal) ++ opsSoftmax ++ opsArgmax ++ opsTake) V
      = StableHlo.after (opsTake (F := Ideal)) (StableHlo.after (opsArgmax (F := Ideal)) (StableHlo.after (opsSoftmax (F := Ideal)) (StableHlo.after (opsScores (F := Ideal)) V))) := by
  simp only [after_two]

/-- The first part leaves the masked scores. -/
theorem read_scores (V : Valuation τ sig (Elt Ideal)) :
    StableHlo.after (opsScores (F := Ideal)) V (Proc.devRef .tc main_v20)
      = scores (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  after_reads_simp
  rfl

/-- The second part leaves the log-softmax of the scores. -/
theorem read_softmax (V : Valuation τ sig (Elt Ideal)) :
    StableHlo.after (opsSoftmax (F := Ideal)) V (Proc.devRef .tc main_v21) = logSoftmax (V (Proc.devRef .tc main_v20)) := by
  after_reads_simp
  simp only [StableHlo.TRef.toBuf, StableHlo.TRef.ofBuf, eq_mpr_eq_cast, cast_eq]
  rfl

/-- The third part leaves the place of every row's largest entry. -/
theorem read_argmax (V : Valuation τ sig (Elt Ideal)) :
    StableHlo.after (opsArgmax (F := Ideal)) V (Proc.devRef .tc main_v22) = argmax (V (Proc.devRef .tc main_v21)) := by
  after_reads_simp
  rfl

/-- The fourth part leaves every row's entry at that place. -/
theorem read_take (V : Valuation τ sig (Elt Ideal)) :
    StableHlo.after (opsTake (F := Ideal)) V (Proc.devRef .tc main_v25)
      = take (V (Proc.devRef .tc main_v21)) (V (Proc.devRef .tc main_v22)) := by
  after_reads_simp
  rfl

set_option maxHeartbeats 2000000 in
/-- The reference runs, leaves its arguments as they were, and ends holding the terms above in its results. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v21) = logP m c
      ∧ r.2.mem (c.tc.loc main_v22) = argmax (logP m c)
      ∧ r.2.mem (c.tc.loc main_v25) = take (logP m c) (argmax (logP m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) := by
  refine θ_run_mono (StableHlo.run_hlo (ops := opsScores (F := Ideal) ++ opsSoftmax ++ opsArgmax ++ opsTake) _ _ (by hlo_seq) (by decide) (by decide)
    (by simp [opsScores, opsSoftmax, opsArgmax, opsTake])
    (by intro _ h; (repeat (cases h with | head => rfl | tail _ h => ?_)); exact nomatch h) _ _) fun r hr c => ?_
  have keep : ∀ b : Ref sig .tc, b ∈ [main_arg0, main_arg1, main_arg2, main_arg3, main_arg4, main_arg5, main_arg6, main_arg7] →
      r.2.mem (c.tc.loc b) = m (c.tc.loc b) := by
    intro b hb
    rw [hr c b]
    simp only [List.mem_cons, List.not_mem_nil, or_false] at hb
    rcases hb with rfl | rfl | rfl | rfl | rfl | rfl | rfl | rfl <;> after_reads_simp
  have h21 : StableHlo.after (opsSoftmax (F := Ideal)) (StableHlo.after (opsScores (F := Ideal)) (StableHlo.launchContents m c)) (Proc.devRef .tc main_v21) = logP m c := by
    rw [read_softmax, read_scores]; rfl
  have h22 : StableHlo.after (opsArgmax (F := Ideal)) (StableHlo.after (opsSoftmax (F := Ideal)) (StableHlo.after (opsScores (F := Ideal)) (StableHlo.launchContents m c)))
      (Proc.devRef .tc main_v22) = argmax (logP m c) := by
    rw [read_argmax, h21]
  have k21 : ∀ V : Valuation τ sig (Elt Ideal), StableHlo.after (opsArgmax (F := Ideal)) V (Proc.devRef .tc main_v21) = V (Proc.devRef .tc main_v21) := by
    intro V; after_reads_simp
  have k21' : ∀ V : Valuation τ sig (Elt Ideal), StableHlo.after (opsTake (F := Ideal)) V (Proc.devRef .tc main_v21) = V (Proc.devRef .tc main_v21) := by
    intro V; after_reads_simp
  have k22 : ∀ V : Valuation τ sig (Elt Ideal), StableHlo.after (opsTake (F := Ideal)) V (Proc.devRef .tc main_v22) = V (Proc.devRef .tc main_v22) := by
    intro V; after_reads_simp
  refine ⟨?_, ?_, ?_, keep _ (by simp), keep _ (by simp), keep _ (by simp), keep _ (by simp), keep _ (by simp), keep _ (by simp),
    keep _ (by simp), keep _ (by simp)⟩
  · rw [hr c, after_parts, k21', k21, h21]
  · rw [hr c, after_parts, k22, h22]
  · rw [hr c, after_parts, read_take, k21, h21, h22]

end Cert.Proof.Ref

end
-- ==== Proof.Rows.lean ====
/- What the policy computes for one row of the batch: the masked scores of its slots, their log-softmax, the place of the
   largest score, and the log-probability there. -/
module

public import Idealize.ShloMosaic.Lib.Pointwise

@[expose] public section

noncomputable section

namespace Cert.Proof.Rows

open Idealize.ShloMosaic Idealize.ShloMosaic.TcCoe

/-- Coordinate `k` of a slot's feature vector: the slot's own weight, then the share of steps taken, then the row's
    embedding. -/
def feature (w : EReal) (share : EReal) (e : Fin 128 → EReal) (k : Fin 130) : EReal :=
  if _h : k.val < 1 then w else if _h : k.val - 1 < 1 then share else e ⟨k.val - 1 - 1, by omega⟩

/-- A slot's score before the mask: two layers, the first rectified. -/
def score (w : EReal) (share : EReal) (e : Fin 128 → EReal) (W1 : Fin 130 → Fin 200 → EReal) (W2 : Fin 200 → EReal) : EReal :=
  ∑ h, max (∑ k, feature w share e k * W1 k h) 0 * W2 h

/-- The value a masked slot scores, minus one million. -/
abbrev masked : EReal := Ideal.ofBits .f32 3379831808#32

/-- The value a maximum starts from, minus infinity. -/
abbrev lowest : EReal := Ideal.ofBits .f32 4286578688#32

/-- The masked scores of one row. -/
def row (w : Fin 101 → EReal) (share : EReal) (e : Fin 128 → EReal) (mk : Fin 101 → BitVec 1)
    (W1 : Fin 130 → Fin 200 → EReal) (W2 : Fin 200 → EReal) (u : Fin 101) : EReal :=
  Scalar.select (mk u) masked (score (w u) share e W1 W2)

/-- A row's largest score. -/
def top (r : Fin 101 → EReal) : EReal := Finset.fold max lowest r Finset.univ

/-- The logarithm of the sum of the exponentials of a row's scores less the largest. -/
def logMass (r : Fin 101 → EReal) : EReal := Ideal.log (∑ u, Ideal.exp (r u - top r))

/-- The log-softmax of a row. -/
def logP (r : Fin 101 → EReal) (u : Fin 101) : EReal := r u - top r - logMass r

/-- The first slot whose score is the largest, 101 standing for the slots that are not. -/
def pick (r : Fin 101 → EReal) : BitVec 32 :=
  Finset.fold IntOp.minsi 2147483647#32 (fun u : Fin 101 => if r u = top r then BitVec.ofNat 32 u.val else 101#32) Finset.univ

/-- The share of steps taken: the step's number over one hundred. -/
def shareOf (i : BitVec 32) : EReal := Ideal.div (FloatOps.sitofp (F := Ideal) .f32 i) (Ideal.ofBits .f32 1120403456#32)

end Cert.Proof.Rows

end
-- ==== Proof.RowMath.lean ====
/- A row of real scores: its largest is one of them, its mass is a positive real, and the first slot whose log-softmax is
   the largest is the first slot whose score is. -/
module

public import proofs.«01_k».proof.Proof.Rows
public import Idealize.ShloMosaic.Lib.IdealHost

@[expose] public section

noncomputable section

namespace Cert.Proof.Rows

open Idealize.ShloMosaic Idealize.ShloMosaic.TcCoe

/-- An extended real that is a real number. -/
def IsReal (x : EReal) : Prop := ∃ a : ℝ, x = (a : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.zero : IsReal 0 := ⟨0, rfl⟩

theorem IsReal.max {x y : EReal} (hx : IsReal x) (hy : IsReal y) : IsReal (max x y) := by
  rcases max_choice x y with h | h <;> rw [h] <;> assumption

/-- A finite sum of reals is real. -/
theorem IsReal.sum {ι : Type} (s : Finset ι) {f : ι → EReal} (h : ∀ i, IsReal (f i)) : IsReal (∑ i ∈ s, f i) :=
  Finset.sum_induction f IsReal (fun _ _ => IsReal.add) IsReal.zero fun i _ => h i

/-- A masked slot's value is real. -/
theorem masked_real : IsReal masked := by
  refine ⟨-1000000, ?_⟩
  simp [masked, Ideal.ofBits, Ideal.ieee]
  norm_num
  rw [← EReal.coe_mul]
  norm_num

/-- A maximum starts from minus infinity. -/
theorem lowest_eq : lowest = ⊥ := by
  simp [lowest, Ideal.ofBits, Ideal.ieee]

/-- The number one hundred. -/
theorem hundred : Ideal.ofBits .f32 1120403456#32 = ((100 : ℝ) : EReal) := by
  simp [Ideal.ofBits, Ideal.ieee]
  norm_num
  rw [← EReal.coe_mul]
  norm_num

/-- The share of steps taken is real. -/
theorem share_real (i : BitVec 32) : IsReal (shareOf i) := by
  unfold shareOf
  rw [hundred, Ideal.div_coe (by norm_num)]
  exact IsReal.mul ⟨i.toInt, rfl⟩ ⟨1 / 100, rfl⟩

/-- A slot's score is real when its weight, its row's embedding and the layers' weights are. -/
theorem score_real {w share : EReal} {e : Fin 128 → EReal} {W1 : Fin 130 → Fin 200 → EReal} {W2 : Fin 200 → EReal}
    (hw : IsReal w) (hs : IsReal share) (he : ∀ d, IsReal (e d)) (h1 : ∀ k h, IsReal (W1 k h)) (h2 : ∀ h, IsReal (W2 h)) :
    IsReal (score w share e W1 W2) := by
  refine IsReal.sum _ fun h => ((IsReal.sum _ fun k => IsReal.mul ?_ (h1 k h)).max IsReal.zero).mul (h2 h)
  unfold feature
  split_ifs
  exacts [hw, hs, he _]

/-- A row's masked scores are real when the arrays they come from are. -/
theorem row_real {w : Fin 101 → EReal} {share : EReal} {e : Fin 128 → EReal} {mk : Fin 101 → BitVec 1}
    {W1 : Fin 130 → Fin 200 → EReal} {W2 : Fin 200 → EReal} (hw : ∀ u, IsReal (w u)) (hs : IsReal share)
    (he : ∀ d, IsReal (e d)) (h1 : ∀ k h, IsReal (W1 k h)) (h2 : ∀ h, IsReal (W2 h)) (u : Fin 101) :
    IsReal (row w share e mk W1 W2 u) := by
  unfold row Scalar.select
  split_ifs
  exacts [masked_real, score_real (hw u) hs he h1 h2]

variable {r : Fin 101 → EReal}

/-- No score exceeds the largest. -/
theorem le_top (r : Fin 101 → EReal) (u : Fin 101) : r u ≤ top r :=
  (Finset.le_fold_max (r u)).mpr (Or.inr ⟨u, Finset.mem_univ u, le_rfl⟩)

/-- The largest of a row of real scores is one of them. -/
theorem top_attained (h : ∀ u, IsReal (r u)) : ∃ u, r u = top r := by
  rcases (Finset.le_fold_max (s := Finset.univ) (f := r) (b := lowest) (top r)).mp le_rfl with h0 | ⟨u, _, hu⟩
  · obtain ⟨a, ha⟩ := h 0
    have h1 := (le_top r 0).trans h0
    rw [ha, lowest_eq] at h1
    exact absurd (le_bot_iff.mp h1) (EReal.coe_ne_bot a)
  · exact ⟨u, le_antisymm (le_top r u) hu⟩

theorem top_real (h : ∀ u, IsReal (r u)) : IsReal (top r) := by
  obtain ⟨u, hu⟩ := top_attained h
  exact hu ▸ h u

/-- The logarithm of a real row's mass is real: the mass is a positive real. -/
theorem logMass_real (h : ∀ u, IsReal (r u)) : IsReal (logMass r) := by
  obtain ⟨t, ht⟩ := top_real h
  choose a ha using h
  have hexp : ∀ u, Ideal.exp (r u - top r) = ((Real.exp (a u - t) : ℝ) : EReal) := fun u => by
    rw [ha u, ht, ← EReal.coe_sub]; rfl
  have hsum : ∑ u, Ideal.exp (r u - top r) = ((∑ u, Real.exp (a u - t) : ℝ) : EReal) := by
    simp only [hexp]
    exact (map_sum (⟨⟨fun x : ℝ => (x : EReal), rfl⟩, fun x y => EReal.coe_add x y⟩ : ℝ →+ EReal) _ _).symm
  have hpos : 0 < ∑ u : Fin 101, Real.exp (a u - t) :=
    Finset.sum_pos (fun u _ => Real.exp_pos _) ⟨0, Finset.mem_univ 0⟩
  refine ⟨Real.log (∑ u, Real.exp (a u - t)), ?_⟩
  unfold logMass
  rw [hsum]
  show (if _ ≤ _ then _ else _) = _
  rw [if_neg (not_le.mpr hpos)]

/-- The log-softmax of a real row is real. -/
theorem logP_real (h : ∀ u, IsReal (r u)) (u : Fin 101) : IsReal (logP r u) := by
  obtain ⟨a, ha⟩ := h u
  obtain ⟨t, ht⟩ := top_real h
  obtain ⟨l, hl⟩ := logMass_real h
  exact ⟨a - t - l, by unfold logP; rw [ha, ht, hl, EReal.coe_sub, EReal.coe_sub]⟩

/-- The log-softmax orders a real row's slots as the scores do. -/
theorem logP_le_iff (h : ∀ u, IsReal (r u)) (u v : Fin 101) : logP r u ≤ logP r v ↔ r u ≤ r v := by
  obtain ⟨a, ha⟩ := h u
  obtain ⟨b, hb⟩ := h v
  obtain ⟨t, ht⟩ := top_real h
  obtain ⟨l, hl⟩ := logMass_real h
  unfold logP
  rw [ha, hb, ht, hl]
  simp only [← EReal.coe_sub, EReal.coe_le_coe_iff]
  constructor <;> intro <;> linarith

/-- At a slot of the largest score the log-softmax is minus the logarithm of the mass. -/
theorem logP_top (h : ∀ u, IsReal (r u)) (u : Fin 101) (hu : r u = top r) : logP r u = 0 - logMass r := by
  obtain ⟨t, ht⟩ := top_real h
  unfold logP
  rw [hu, ht, ← EReal.coe_sub, sub_self, EReal.coe_zero]

/-- The signed reading of the smaller of two words is the smaller of their readings. -/
theorem minsi_toInt (x y : BitVec 32) : (IntOp.minsi x y).toInt = min x.toInt y.toInt := by
  unfold IntOp.minsi
  split_ifs with h <;> simp only [BitVec.slt, BitVec.sle, decide_eq_true_eq] at h <;> omega

/-- A slot's number as a word reads back as itself. -/
theorem slot_toInt (n : Nat) (h : n ≤ 101) : (BitVec.ofNat 32 n).toInt = n := by
  rw [BitVec.toInt_eq_toNat_of_lt] <;> simp only [BitVec.toNat_ofNat] <;> omega

/-- The pick is the first slot of the largest score. -/
theorem pick_eq (k : Fin 101) (hk : r k = top r) (hfirst : ∀ u, r u = top r → k ≤ u) : pick r = BitVec.ofNat 32 k.val := by
  apply BitVec.eq_of_toInt_eq
  unfold pick
  rw [slot_toInt _ k.isLt.le, ← Finset.fold_hom (op' := min) (m := BitVec.toInt) minsi_toInt]
  apply le_antisymm
  · refine (Finset.fold_min_le _).mpr (Or.inr ⟨k, Finset.mem_univ k, ?_⟩)
    rw [if_pos hk, slot_toInt _ k.isLt.le]
  · refine (Finset.le_fold_min _).mpr ⟨?_, fun u _ => ?_⟩
    · have := k.isLt
      show (k.val : Int) ≤ 2147483647
      omega
    · split_ifs with hu
      · rw [slot_toInt _ u.isLt.le]
        exact_mod_cast hfirst u hu
      · have := k.isLt
        show (k.val : Int) ≤ 101
        omega

end Cert.Proof.Rows

end
-- ==== Proof.RefRow.lean ====
/- The reference's scores and log-softmax, read at a row of the batch and a slot. -/
module

public import proofs.«01_k».proof.Proof.RefRun
public import proofs.«01_k».proof.Proof.RowMath

@[expose] public section

set_option maxRecDepth 16384

noncomputable section

namespace Cert.Proof.Ref

open Idealize.ShloMosaic Idealize.ShloMosaic.TcCoe
open Cert.ReferenceIdeal Cert.ReferenceIdeal.Facts₀ Cert.ReferenceIdeal.Facts

/-- With zero biases the reference's scores are the row's masked scores. -/
theorem scores_at (w : FVec Ideal S4096x101 .f32) (e : FVec Ideal S4096x128 .f32) (mk : IVec S4096x101 1) (i : IVec S_ 32)
    (W1 : FVec Ideal S130x200 .f32) (b1 : FVec Ideal S200 .f32) (W2 : FVec Ideal S200x1 .f32) (b2 : FVec Ideal S1 .f32)
    (hb1 : ∀ y, b1 y = 0) (hb2 : ∀ y, b2 y = 0) (b : Fin 4096) (u : Fin 101) :
    scores w e mk i W1 b1 W2 b2 (ix2 b u)
      = Rows.row (fun u => w (ix2 b u)) (Rows.shareOf (i ix0)) (fun d => e (ix2 b d)) (fun u => mk (ix2 b u))
          (fun k h => W1 (ix2 k h)) (fun h => W2 (ix2 h 0)) u := by
  pointwise [scores]
  simp only [hb1, hb2, add_zero]
  rfl

/-- A maximum folded from the lowest value is no lower. -/
theorem max_lowest (f : Fin 101 → EReal) : max Rows.lowest (Finset.fold max Rows.lowest f Finset.univ) = Rows.top f := by
  refine max_eq_right ?_
  rw [Rows.lowest_eq]
  exact bot_le

/-- The reference's log-softmax is the row's. -/
theorem logSoftmax_at (s : FVec Ideal S4096x101 .f32) (b : Fin 4096) (u : Fin 101) :
    logSoftmax s (ix2 b u) = Rows.logP (fun u => s (ix2 b u)) u := by
  pointwise [logSoftmax, centred]
  have h := max_lowest fun u => s (ix2 b u)
  simp only [Rows.lowest] at h
  rw [h]
  rfl

end Cert.Proof.Ref

end
-- ==== Proof.RefArgmax.lean ====
/- The reference's arg-max of a row of reals is the first slot of the row's largest entry. -/
module

public import proofs.«01_k».proof.Proof.RefRun
public import proofs.«01_k».proof.Proof.RowMath

@[expose] public section

set_option maxRecDepth 16384

noncomputable section

namespace Cert.Proof.Ref

open Idealize.ShloMosaic Idealize.ShloMosaic.TcCoe
open Cert.ReferenceIdeal Cert.ReferenceIdeal.Facts₀ Cert.ReferenceIdeal.Facts
open Cert.Proof.Rows

/-- A pair of a value and a place beats another: its value is larger, or equal at no later a place. -/
def Beats (a b : EReal × BitVec 32) : Prop := b.1 < a.1 ∨ (b.1 = a.1 ∧ a.2.toInt ≤ b.2.toInt)

theorem Beats.refl (a : EReal × BitVec 32) : Beats a a := Or.inr ⟨rfl, le_rfl⟩

theorem Beats.trans {a b d : EReal × BitVec 32} : Beats a b → Beats b d → Beats a d := by
  rintro (h | ⟨h, h'⟩) (k | ⟨k, k'⟩)
  · exact Or.inl (k.trans h)
  · exact Or.inl (k ▸ h)
  · exact Or.inl (h ▸ k)
  · exact Or.inr ⟨k.trans h, h'.trans k'⟩

/-- The arg-max's combining of two pairs returns one that beats both. -/
theorem reducer_best (a b : EReal × BitVec 32) :
    (reducer_argmax_f32_i32 (F := Ideal) a b = a ∧ Beats a b) ∨ (reducer_argmax_f32_i32 (F := Ideal) a b = b ∧ Beats b a) := by
  obtain ⟨x, i⟩ := a
  obtain ⟨y, j⟩ := b
  have hne : FloatOps.cmpf (F := Ideal) (φ := .f32) .une x x = 0#1 := by
    show BitVec.ofBool (decide (x ≠ x)) = 0#1
    simp
  have hgt : FloatOps.cmpf (F := Ideal) (φ := .f32) .ogt x y = BitVec.ofBool (decide (y < x)) := rfl
  have heq : FloatOps.cmpf (F := Ideal) (φ := .f32) .oeq x y = BitVec.ofBool (decide (x = y)) := rfl
  have hlt : IntOp.cmpi .slt i j = BitVec.ofBool (decide (i.toInt < j.toInt)) := rfl
  simp only [reducer_argmax_f32_i32, hne, hgt, heq, hlt, Beats]
  rcases lt_trichotomy x y with h | h | h
  · right
    have h1 : ¬ y < x := not_lt.mpr h.le
    have h2 : x ≠ y := h.ne
    simp [Scalar.select, IntOp.ori, IntOp.andi, h1, h2, h]
  · subst h
    by_cases hij : i.toInt < j.toInt
    · left; simp [Scalar.select, IntOp.ori, IntOp.andi, hij, hij.le]
    · right; simp [Scalar.select, IntOp.ori, IntOp.andi, hij, not_lt.mp hij]
  · left
    have h2 : x ≠ y := h.ne'
    simp [Scalar.select, IntOp.ori, IntOp.andi, h, h2]

/-- Folding the combining over a list returns one of its pairs, or the pair started from, that beats them all. -/
theorem fold_best (l : List (EReal × BitVec 32)) (a : EReal × BitVec 32) :
    l.foldl (reducer_argmax_f32_i32 (F := Ideal)) a ∈ a :: l
      ∧ ∀ p ∈ a :: l, Beats (l.foldl (reducer_argmax_f32_i32 (F := Ideal)) a) p := by
  induction l generalizing a with
  | nil => exact ⟨List.mem_cons_self, fun p hp => by rw [List.mem_singleton.mp hp]; exact Beats.refl a⟩
  | cons b l ih =>
    obtain ⟨hm, hb⟩ := ih (reducer_argmax_f32_i32 (F := Ideal) a b)
    rw [List.foldl_cons]
    generalize hr : List.foldl (reducer_argmax_f32_i32 (F := Ideal)) (reducer_argmax_f32_i32 (F := Ideal) a b) l = res at hm hb ⊢
    have h0 := hb _ List.mem_cons_self
    have hl : ∀ p ∈ l, Beats res p := fun p hp => hb p (List.mem_cons_of_mem _ hp)
    rcases reducer_best a b with ⟨h, hab⟩ | ⟨h, hba⟩
    · rw [h] at hm h0
      refine ⟨?_, ?_⟩
      · rcases List.mem_cons.mp hm with h | h
        · exact h ▸ List.mem_cons_self
        · exact List.mem_cons_of_mem _ (List.mem_cons_of_mem _ h)
      · intro p hp
        rcases List.mem_cons.mp hp with rfl | hp
        · exact h0
        · rcases List.mem_cons.mp hp with rfl | hp
          · exact h0.trans hab
          · exact hl p hp
    · rw [h] at hm h0
      refine ⟨List.mem_cons_of_mem _ hm, ?_⟩
      intro p hp
      rcases List.mem_cons.mp hp with rfl | hp
      · exact h0.trans hba
      · rcases List.mem_cons.mp hp with rfl | hp
        · exact h0
        · exact hl p hp

/-- Entry `(a, u)` of the batch reduces into row `a`. -/
theorem drop_row (a : Fin 4096) (u : Fin 101) :
    (reducesTo_S4096x101_S4096_d1 : S4096x101.ReducesTo [1] S4096).drop (ix2 a u) = ix1 a := by
  funext d
  obtain rfl : d = 0 := Subsingleton.elim _ _
  rfl

/-- The pairs folded over for row `b` are the row's entries with their slots' numbers. -/
theorem mem_fiber (p : FVec Ideal S4096x101 .f32) (b : Fin 4096) (x : EReal × BitVec 32) :
    x ∈ Host.argReduceFiber p (iotaInDim S4096x101 32 1) reducesTo_S4096x101_S4096_d1 (ix1 b)
      ↔ ∃ u : Fin 101, x = (p (ix2 b u), BitVec.ofNat 32 u.val) := by
  unfold Host.argReduceFiber
  rw [List.mem_map]
  constructor
  · rintro ⟨n, hn, rfl⟩
    have hd := of_decide_eq_true (List.mem_filter.mp hn).2
    generalize S4096x101.rowMajor.symm n = y at hd ⊢
    idx_vars y
    rw [drop_row] at hd
    obtain rfl : y0 = b := congrFun hd 0
    exact ⟨y1, rfl⟩
  · rintro ⟨u, rfl⟩
    refine ⟨S4096x101.rowMajor (ix2 b u), ?_, ?_⟩
    · rw [List.mem_filter, Equiv.symm_apply_apply, drop_row]
      exact ⟨List.mem_finRange _, decide_eq_true rfl⟩
    · rw [Equiv.symm_apply_apply]; rfl

/-- The reference's arg-max of a row of reals: a slot whose entry none exceeds, and no earlier slot holds. -/
theorem argmax_at (p : FVec Ideal S4096x101 .f32) (b : Fin 4096) (hp : ∀ u, IsReal (p (ix2 b u))) :
    ∃ k : Fin 101, argmax p (ix1 b) = BitVec.ofNat 32 k.val ∧ (∀ u, p (ix2 b u) ≤ p (ix2 b k))
      ∧ ∀ u, p (ix2 b u) = p (ix2 b k) → k ≤ u := by
  unfold argmax
  rw [Idealize.ShloMosaic.Ideal.argReduce_eq_reduce2, Host.reduce2_eq_foldl_fiber]
  obtain ⟨hm, hb⟩ := fold_best
    (Host.argReduceFiber p (iotaInDim S4096x101 32 1) reducesTo_S4096x101_S4096_d1 (ix1 b)) (lowest, 0#32)
  have hmem : ∀ u : Fin 101, (p (ix2 b u), BitVec.ofNat 32 u.val)
      ∈ Host.argReduceFiber p (iotaInDim S4096x101 32 1) reducesTo_S4096x101_S4096_d1 (ix1 b) :=
    fun u => (mem_fiber p b _).mpr ⟨u, rfl⟩
  have hbeat := fun u => hb _ (List.mem_cons_of_mem _ (hmem u))
  rcases List.mem_cons.mp hm with h | h
  · exfalso
    obtain ⟨a, ha⟩ := hp 0
    have h0 := hbeat 0
    rw [h, ha, lowest_eq] at h0
    rcases h0 with h0 | h0
    · exact not_lt_bot h0
    · exact EReal.coe_ne_bot a h0.1
  · obtain ⟨k, hk⟩ := (mem_fiber p b _).mp h
    rw [hk] at hbeat
    refine ⟨k, ?_, fun u => ?_, fun u hu => ?_⟩
    · show (List.foldl _ (lowest, 0#32) _).2 = _
      rw [hk]
    · rcases hbeat u with h | h
      · exact h.le
      · exact h.1.le
    · rcases hbeat u with h | h
      · exact absurd hu h.ne
      · have h2 := h.2
        simp only [slot_toInt _ k.isLt.le, slot_toInt _ u.isLt.le] at h2
        exact_mod_cast h2

end Cert.Proof.Ref

end
-- ==== Proof.RefTake.lean ====
/- The reference's look-up of every row's entry at a place inside the row. -/
module

public import proofs.«01_k».proof.Proof.RefRun
public import proofs.«01_k».proof.Proof.RowMath
public import Idealize.ShloMosaic.Lib.ValueIdxCore

@[expose] public section

set_option maxRecDepth 16384

noncomputable section

namespace Cert.Proof.Ref

open Idealize.ShloMosaic Idealize.ShloMosaic.TcCoe
open Cert.ReferenceIdeal Cert.ReferenceIdeal.Facts₀ Cert.ReferenceIdeal.Facts

/-- The gather at row `b` is that row's entry at the place given for it, brought inside the row. -/
theorem gather_at (p : FVec Ideal S4096x101 .f32) (q : IVec S4096x1x1 32) (b : Fin 4096) :
    Host.gather gather_S4096x101_S4096x1x1_S4096x1_n_1_0_0_1_2_11 p q (ix2 b 0)
      = p (ix2 b ⟨min (q (ix3 b 0 0)).toInt.toNat 100, by omega⟩) := by
  refine congrArg p (funext fun a => Fin.ext ?_)
  have h01 : a = 0 ∨ a = 1 := by
    match a with
    | ⟨0, _⟩ => exact Or.inl rfl
    | ⟨1, _⟩ => exact Or.inr rfl
  let d := gather_S4096x101_S4096x1x1_S4096x1_n_1_0_0_1_2_11
  show d.start (ix2 b 0) q a + d.batchCoord (ix2 b 0) a + d.offCoord (ix2 b 0) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ d.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ d.startIndexMap from List.mem_singleton.mpr rfl),
      show d.siIdx (ix2 b 0) ⟨List.idxOf (1 : Fin 2) d.startIndexMap, List.idxOf_lt_length_iff.2 (List.mem_singleton.mpr rfl)⟩
        = ix3 b 0 0 from funext fun e => Fin.ext (by
          match e with
          | ⟨0, _⟩ => rfl
          | ⟨1, _⟩ => rfl
          | ⟨2, _⟩ => rfl)]
    rfl

/-- The place looked up for row `b`, when it was a slot's number to begin with. -/
theorem place_at (q : IVec S4096 32) (b : Fin 4096) (k : Fin 101) (hq : q (ix1 b) = BitVec.ofNat 32 k.val) :
    place q (ix3 b 0 0) = BitVec.ofNat 32 k.val := by
  pointwise [place]
  rw [hq]
  clear hq
  revert k
  decide

/-- The reference's look-up at a slot's number is the row's entry at that slot. -/
theorem take_at (p : FVec Ideal S4096x101 .f32) (q : IVec S4096 32) (b : Fin 4096) (k : Fin 101)
    (hq : q (ix1 b) = BitVec.ofNat 32 k.val) : take p q (ix1 b) = p (ix2 b k) := by
  pointwise [take]
  have hx : ∀ x : Fin 1, place q (ix3 b 0 x) = BitVec.ofNat 32 k.val := fun x => by
    obtain rfl : x = 0 := Subsingleton.elim _ _
    exact place_at q b k hq
  simp only [hx]
  have hc : Finset.fold IntOp.andi 1#1 (fun _ : Fin 1 => IntOp.andi (IntOp.cmpi .sge (BitVec.ofNat 32 k.val) 0#32)
      (IntOp.cmpi .sle (BitVec.ofNat 32 k.val) 100#32)) Finset.univ = 1#1 := by
    clear hq hx
    revert k
    decide
  rw [hc, show ∀ x y : EReal, Scalar.select 1#1 x y = x from fun _ _ => rfl, gather_at]
  refine congrArg (fun v => p (ix2 b v)) (Fin.ext ?_)
  show min (place q (ix3 b 0 0)).toInt.toNat 100 = k.val
  have := k.isLt
  rw [hx, Rows.slot_toInt _ this.le]
  omega

end Cert.Proof.Ref

end
-- ==== Proof.Equation.lean ====
/- The reference's results over the argument arrays, row by row: the rows' log-softmax, picks and log-probabilities. -/
module

public import proofs.«01_k».proof.Proof.RefRow
public import proofs.«01_k».proof.Proof.RefArgmax
public import proofs.«01_k».proof.Proof.RefTake

@[expose] public section

set_option maxRecDepth 16384

noncomputable section

namespace Cert.Proof.Equation

open Idealize.ShloMosaic Idealize.ShloMosaic.TcCoe
open Cert.ReferenceIdeal
open Cert.Proof.Rows

variable {p : FVec Ideal S4096x101 .f32} {b : Fin 4096} {r : Fin 101 → EReal}

/-- Where an array's row is the log-softmax of a real row `r`, its arg-max is a slot of `r`'s largest score, and the pick. -/
theorem argmax_pick (hr : ∀ u, IsReal (r u)) (hp : ∀ u, p (ix2 b u) = logP r u) :
    ∃ k : Fin 101, Ref.argmax p (ix1 b) = BitVec.ofNat 32 k.val ∧ r k = top r ∧ pick r = BitVec.ofNat 32 k.val := by
  obtain ⟨k, hk, hmax, hfirst⟩ := Ref.argmax_at p b fun u => by rw [hp]; exact logP_real hr u
  simp only [hp] at hmax hfirst
  have hle : ∀ u, r u ≤ r k := fun u => (logP_le_iff hr u k).mp (hmax u)
  have htop : r k = top r := by
    obtain ⟨u, hu⟩ := top_attained hr
    exact le_antisymm (le_top r k) (hu ▸ hle u)
  refine ⟨k, hk, htop, pick_eq k htop fun u hu => hfirst u ?_⟩
  unfold logP
  rw [hu, htop]

/-- There the reference's arg-max is the pick. -/
theorem argmax_eq (hr : ∀ u, IsReal (r u)) (hp : ∀ u, p (ix2 b u) = logP r u) : Ref.argmax p (ix1 b) = pick r := by
  obtain ⟨k, hk, _, hpick⟩ := argmax_pick hr hp
  rw [hk, hpick]

/-- There the entry the reference looks up at its arg-max is minus the logarithm of the row's mass. -/
theorem take_eq (hr : ∀ u, IsReal (r u)) (hp : ∀ u, p (ix2 b u) = logP r u) :
    Ref.take p (Ref.argmax p) (ix1 b) = 0 - logMass r := by
  obtain ⟨k, hk, htop, _⟩ := argmax_pick hr hp
  rw [Ref.take_at p _ b k hk, hp, logP_top hr k htop]

end Cert.Proof.Equation

end
-- ==== Proof.Finite.lean ====
/- What the precondition says of the argument arrays: the entries of four are real, those of the two bias arrays zero. -/
module

public import proofs.«01_k».proof.Proof.RowMath
public import proofs.«01_k».proof.Proof.Gen.Pre_finite_without_biases
public import Idealize.ShloMosaic.Lib.ReduceAll

@[expose] public section

noncomputable section

namespace Cert.Proof.Finite

open Idealize.ShloMosaic Idealize.ShloMosaic.TcCoe
open Cert.Pre_finite_without_biases Cert.Pre_finite_without_biases.Facts
open Cert.Proof.Rows

instance : Subsingleton S_.Idx := ⟨fun _ _ => funext fun a => a.elim0⟩

/-- Two bits whose conjunction is set are both set. -/
theorem both {x y : BitVec 1} (h : IntOp.andi x y = 1#1) : x = 1#1 ∧ y = 1#1 := by
  revert x y; decide

/-- An entry whose absolute value is below infinity is real. -/
theorem real_of_olt {x : EReal} (h : FloatOps.cmpf (F := Ideal) (φ := .f32) .olt (max x (-x)) (Ideal.ofBits .f32 0x7F800000#32) = 1#1) :
    IsReal x := by
  have ht : Ideal.ofBits .f32 0x7F800000#32 = ⊤ := by simp [Ideal.ofBits, Ideal.ieee]
  rw [ht] at h
  have h' : max x (-x) < ⊤ := by
    by_contra hc
    have : FloatOps.cmpf (F := Ideal) (φ := .f32) .olt (max x (-x)) ⊤ = 0#1 := by
      show BitVec.ofBool (decide (max x (-x) < ⊤)) = 0#1
      rw [decide_eq_false hc]; rfl
    rw [this] at h
    exact absurd h (by decide)
  induction x using EReal.rec with
  | bot => simp at h'
  | top => simp at h'
  | coe a => exact ⟨a, rfl⟩

/-- An entry that compares equal to zero is zero. -/
theorem zero_of_oeq {x : EReal} (h : FloatOps.cmpf (F := Ideal) (φ := .f32) .oeq x (Ideal.ofBits .f32 0x00000000#32) = 1#1) : x = 0 := by
  have hz : Ideal.ofBits .f32 0x00000000#32 = 0 := by simp [Ideal.ofBits, Ideal.ieee]
  rw [hz] at h
  by_contra hc
  have : FloatOps.cmpf (F := Ideal) (φ := .f32) .oeq x 0 = 0#1 := by
    show BitVec.ofBool (decide (x = 0)) = 0#1
    rw [decide_eq_false hc]; rfl
  rw [this] at h
  exact absurd h (by decide)

/-- The precondition's function is set only at arrays of real entries with zero biases. -/
theorem of_fn (w : FVec Ideal S4096x101 .f32) (e : FVec Ideal S4096x128 .f32) (mk : IVec S4096x101 1) (i : IVec S_ 32)
    (W1 : FVec Ideal S130x200 .f32) (b1 : FVec Ideal S200 .f32) (W2 : FVec Ideal S200x1 .f32) (b2 : FVec Ideal S1 .f32)
    (h : fn (F := Ideal) w e mk i W1 b1 W2 b2 ix0 = 1#1) :
    (∀ y, IsReal (w y)) ∧ (∀ y, IsReal (e y)) ∧ (∀ y, IsReal (W1 y)) ∧ (∀ y, IsReal (W2 y)) ∧ (∀ y, b1 y = 0) ∧ (∀ y, b2 y = 0) := by
  unfold fn fn_part1 at h
  obtain ⟨h, hb2⟩ := both h
  obtain ⟨h, hb1⟩ := both h
  obtain ⟨h, hW2⟩ := both h
  obtain ⟨h, hW1⟩ := both h
  obtain ⟨hw, he⟩ := both h
  exact ⟨fun y => real_of_olt (Host.reduce_andi_all _ _ _ _ _ hw y), fun y => real_of_olt (Host.reduce_andi_all _ _ _ _ _ he y),
    fun y => real_of_olt (Host.reduce_andi_all _ _ _ _ _ hW1 y), fun y => real_of_olt (Host.reduce_andi_all _ _ _ _ _ hW2 y),
    fun y => zero_of_oeq (Host.reduce_andi_all _ _ _ _ _ hb1 y), fun y => zero_of_oeq (Host.reduce_andi_all _ _ _ _ _ hb2 y)⟩

end Cert.Proof.Finite

end
-- ==== Proof.KernelBlock.lean ====
/- What one grid point of the kernel computes from its blocks: the three outputs of the block's rows. -/
module

public import proofs.«01_k».proof.Defs
public import proofs.«01_k».proof.Proof.Gen.KernelIdeal
public import proofs.«01_k».proof.Proof.Gen.KernelIdeal.Skeleton
public import proofs.«01_k».proof.Proof.Rows
public import Idealize.ShloMosaic.Lib.Pointwise

@[expose] public section

set_option maxRecDepth 16384

noncomputable section

namespace Cert.Proof.Ker

open Idealize.ShloMosaic Idealize.ShloMosaic.TcCoe Idealize.SL.Sem
open Cert.KernelIdeal Cert.KernelIdeal.Gen Cert.KernelIdeal.Facts₀ Cert.KernelIdeal.Facts
open Cert.Proof.Rows

variable (w : FVec Ideal S256x101 .f32) (e : FVec Ideal S256x128 .f32) (v : FVec Ideal S1x1 .f32)
  (W1 : FVec Ideal S130x200 .f32) (W2 : FVec Ideal S200x1 .f32) (mk : IVec S256x101 32)

/-- The masked scores of row `b` of a block. -/
def blockRow (b : Fin 256) : Fin 101 → EReal :=
  row (fun u => w (ix2 b u)) (v (ix2 0 0)) (fun d => e (ix2 b d)) (fun u => IntOp.cmpi .ne (mk (ix2 b u)) 0#32)
    (fun k h => W1 (ix2 k h)) (fun h => W2 (ix2 h 0))

/-- The block's scores are its rows' scores: the three lanes that pad every row are cut off again. -/
theorem pay5_at (b : Fin 256) (u : Fin 101) :
    k0_pay5 (F := Ideal) w e v W1 W2 mk (ix2 b u) = blockRow w e v W1 W2 mk b u := by
  pointwise [k0_pay5]
  rfl

/-- The block's row maxima. -/
theorem pay6_at (b : Fin 256) :
    k0_pay6 (F := Ideal) w e v W1 W2 mk (ix2 b 0) = top (blockRow w e v W1 W2 mk b) := by
  pointwise [k0_pay6]
  simp only [pay5_at]
  rfl

/-- The block's scores less their row's maximum. -/
theorem pay7_at (b : Fin 256) (u : Fin 101) :
    k0_pay7 (F := Ideal) w e v W1 W2 mk (ix2 b u)
      = blockRow w e v W1 W2 mk b u - top (blockRow w e v W1 W2 mk b) := by
  pointwise [k0_pay7]
  rw [pay5_at, pay6_at]

/-- The first output of a block: the log-softmax of its rows. -/
theorem logP_at (b : Fin 256) (u : Fin 101) :
    k0_pay2 (F := Ideal) (k0_pay5 w e v W1 W2 mk) (k0_pay6 w e v W1 W2 mk) (k0_pay7 w e v W1 W2 mk) (ix2 b u)
      = logP (blockRow w e v W1 W2 mk b) u := by
  pointwise [k0_pay2, k0_pay1]
  simp only [pay5_at, pay6_at, pay7_at]
  rfl

/-- The second output of a block: the first slot of the largest score in every row. -/
theorem pick_at (b : Fin 256) :
    k0_pay3 (F := Ideal) (iota .tc S256x101 32 [1] Gen.iota_S256x101_d1_w32) (k0_pay5 w e v W1 W2 mk) (k0_pay6 w e v W1 W2 mk) (ix2 b 0)
      = pick (blockRow w e v W1 W2 mk b) := by
  pointwise [k0_pay3]
  simp only [pay5_at, pay6_at]
  rfl

/-- The third output of a block: minus the logarithm of every row's mass. -/
theorem logMass_at (b : Fin 256) :
    k0_pay4 (F := Ideal) (k0_pay7 w e v W1 W2 mk) (ix2 b 0) = 0 - logMass (blockRow w e v W1 W2 mk b) := by
  pointwise [k0_pay4, k0_pay1]
  simp only [pay7_at]
  rfl

end Cert.Proof.Ker

end
-- ==== Proof.KernelArray.lean ====
/- What the kernel's three result arrays hold after the whole grid, row by row of the batch. -/
module

public import proofs.«01_k».proof.Proof.KernelBlock
public import proofs.«01_k».proof.Proof.Gen.KernelIdeal.Frame
public import Idealize.ShloMosaic.Lib.Claim
public import Idealize.ShloMosaic.Lib.StableHlo.RunRead
public import Idealize.ShloMosaic.Lib.Pipeline.ValueKit

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen Cert.KernelIdeal.Facts₀ Cert.KernelIdeal.Facts
open Cert.Proof.Rows

variable (m : (ℓ : Loc nD τ sig) → Buf (Elt Ideal) ℓ) (c : Dev nD)

/-- The masked scores of row `b` of the batch, from the argument arrays. -/
def batchRow (w : FVec Ideal S4096x101 .f32) (e : FVec Ideal S4096x128 .f32) (mk : IVec S4096x101 1) (i : IVec S_ 32)
    (W1 : FVec Ideal S130x200 .f32) (W2 : FVec Ideal S200x1 .f32) (b : Fin 4096) : Fin 101 → EReal :=
  row (fun u => w (ix2 b u)) (shareOf (i ix0)) (fun d => e (ix2 b d)) (fun u => mk (ix2 b u))
    (fun k h => W1 (ix2 k h)) (fun h => W2 (ix2 h 0))

/-- The same at the arguments a memory holds. -/
abbrev rowOf (b : Fin 4096) : Fin 101 → EReal :=
  batchRow (m (c.tc.loc main_arg0)) (m (c.tc.loc main_arg1)) (m (c.tc.loc main_arg2)) (m (c.tc.loc main_arg3))
    (m (c.tc.loc main_arg4)) (m (c.tc.loc main_arg6)) b

/-- Where the windows stand at grid point `t`. -/
theorem idx : ∀ t : Fin cfg0.N, win0_0.index t = ![0, 0] ∧ win0_1.index t = ![t.val, 0] ∧ win0_2.index t = ![t.val, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The first result array: every row's log-softmax. -/
def outP : FVec Ideal S4096x101 .f32 := fun y => logP (rowOf m c (y 0)) (y 1)
/-- The second result array, as a column: every row's first slot of the largest score. -/
def outSel : IVec S4096x1 32 := fun y => pick (rowOf m c (y 0))
/-- The third result array, as a column: minus the logarithm of every row's mass. -/
def outLp : FVec Ideal S4096x1 .f32 := fun y => 0 - logMass (rowOf m c (y 0))

/-- The array's row that row `b` of grid point `t`'s blocks is. -/
def place (t : Fin cfg0.N) (b : Fin 256) : Fin 4096 :=
  ⟨t.val * 256 + b.val, by have := t.isLt; have h : cfg0.N = 16 := by decide +kernel
                           omega⟩

/-- A one-bit word widened is nonzero exactly where the bit is set. -/
theorem widened (x : BitVec 1) : IntOp.cmpi .ne (x.zeroExtend 32) 0#32 = x := by
  revert x; decide

/-- The blocks of grid point `t` hold the rows `256 t`, `256 t + 1`, … of the batch. -/
theorem blockRow_iblk (t : Fin cfg0.N) (b : Fin 256) :
    blockRow (iblk m c 1 t) (iblk m c 2 t) (iblk m c 0 t) (iblk m c 4 t) (iblk m c 5 t) (iblk m c 3 t) b
      = rowOf m c (place t b) := by
  have hw : ∀ u, iblk m c 1 t (ix2 b u) = m (c.tc.loc main_arg0) (ix2 (place t b) u) := fun u => by
    blk_ext [iblk, V_main_arg0, idx t, place]
  have he : ∀ d, iblk m c 2 t (ix2 b d) = m (c.tc.loc main_arg1) (ix2 (place t b) d) := fun d => by
    blk_ext [iblk, V_main_arg1, idx t, place]
  have h1 : ∀ k h, iblk m c 4 t (ix2 k h) = m (c.tc.loc main_arg4) (ix2 k h) := fun k h => by
    blk_ext [iblk, V_main_arg4, idx t]
  have h2 : ∀ h, iblk m c 5 t (ix2 h 0) = m (c.tc.loc main_arg6) (ix2 h 0) := fun h => by
    blk_ext [iblk, V_main_arg6, idx t]
  have hv : iblk m c 0 t (ix2 0 0) = shareOf (m (c.tc.loc main_arg3) ix0) := by
    blk_simp [iblk]
    entry_read
    pointwise
    rfl
  have hm : ∀ u, IntOp.cmpi .ne (iblk m c 3 t (ix2 b u)) 0#32 = m (c.tc.loc main_arg2) (ix2 (place t b) u) := fun u => by
    have hV : V m c main_v3 = extui 32 (m (c.tc.loc main_arg2)) Facts₀.natLt_1_32 := by
      show StableHlo.after [hostOps0].flatten (fun b => m (c, b)) (Proc.devRef .tc main_v3) = _
      after_reads_simp
    blk_simp [iblk]
    rw [hV]
    refine (widened _).trans ?_
    blk_ext [idx t, place]
  unfold rowOf batchRow blockRow
  simp only [hw, he, h1, h2, hv, hm]

/-- The offset of a load of a whole block. -/
theorem zero_offset : (![0, 0] : Fin 2 → Nat) = fun _ => 0 := by
  funext a; fin_cases a <;> rfl

/-! A load of a whole block reads the block. -/

theorem ld0 {e : EltTy} (x : S256x101.Idx → Elt Ideal e) : View.ld x r0_0 = x := View.ld_unit_zero (S := S256x101) zero_offset _ x
theorem ld1 {e : EltTy} (x : S256x128.Idx → Elt Ideal e) : View.ld x r0_1 = x := View.ld_unit_zero (S := S256x128) zero_offset _ x
theorem ld2 {e : EltTy} (x : S1x1.Idx → Elt Ideal e) : View.ld x r0_2 = x := View.ld_unit_zero (S := S1x1) zero_offset _ x
theorem ld3 {e : EltTy} (x : S130x200.Idx → Elt Ideal e) : View.ld x r0_3 = x := View.ld_unit_zero (S := S130x200) zero_offset _ x
theorem ld4 {e : EltTy} (x : S200x1.Idx → Elt Ideal e) : View.ld x r0_4 = x := View.ld_unit_zero (S := S200x1) zero_offset _ x

/-- The first result array after the grid. -/
theorem final6 : (dats m 0 c).arrAt 6 (cfgs 0).N = outP m c := by
  refine (dats m 0 c).arrAt_eq_of_covers 6 _ (by decide +kernel) fun t _ y => ?_
  blk_simp
  rw [after0_6]
  frame_out
  unfold k0_pay8 k0_pay9 k0_pay10
  blk_simp
  idx_vars y
  simp only [ld0, ld1, ld2, ld3, ld4]
  refine (logP_at _ _ _ _ _ _ _ _).trans ?_
  rw [blockRow_iblk]
  show outP m c (ix2 (place t y0) y1) = _
  blk_ext [idx t, place]

/-- What grid point `t`'s block of the second array computes in row `b`: the pick of the batch's row there. -/
theorem block7 (t : Fin cfg0.grid.N) (b : Fin 256) :
    k0_pay3 (iota Kind.tc S256x101 32 [1] Gen.iota_S256x101_d1_w32)
      (k0_pay5 (iblk m c 1 t) (iblk m c 2 t) (iblk m c 0 t) (iblk m c 4 t) (iblk m c 5 t) (iblk m c 3 t))
      (k0_pay6 (iblk m c 1 t) (iblk m c 2 t) (iblk m c 0 t) (iblk m c 4 t) (iblk m c 5 t) (iblk m c 3 t)) (ix2 b 0)
      = pick (rowOf m c (place t b)) :=
  (pick_at _ _ _ _ _ _ _).trans (congrArg pick (blockRow_iblk m c t b))

/-- The second result array at row `b`. -/
theorem outSel_at (b : Fin 4096) : outSel m c (ix2 b 0) = pick (rowOf m c b) := rfl

/-- Row `b` of grid point `t`'s block of the second array is row `place t b` of that array. -/
theorem spot7 (t : Fin cfg0.grid.N) (b : Fin 256) :
    ((View.whole main_v4_1).slice (win0_7.rect t)).emb (ix2 b 0) = ix2 (place t b) 0 := by
  blk_ext [idx t, place]

/-- The second result array after the grid. -/
theorem final7 : (dats m 0 c).arrAt 7 (cfgs 0).N = outSel m c := by
  refine (dats m 0 c).arrAt_eq_of_covers 7 _ (by decide +kernel) fun t _ y => ?_
  blk_simp
  rw [after0_7]
  frame_out
  unfold k0_pay8 k0_pay9
  blk_simp
  idx_vars y
  simp only [ld0, ld1, ld2, ld3, ld4]
  obtain rfl : y1 = 0 := Subsingleton.elim _ _
  exact (block7 m c t y0).trans ((outSel_at m c (place t y0)).symm.trans (congrArg (outSel m c) (spot7 t y0).symm))

/-- The third result array after the grid. -/
theorem final8 : (dats m 0 c).arrAt 8 (cfgs 0).N = outLp m c := by
  refine (dats m 0 c).arrAt_eq_of_covers 8 _ (by decide +kernel) fun t _ y => ?_
  blk_simp
  rw [after0_8]
  frame_out
  unfold k0_pay10
  blk_simp
  idx_vars y
  simp only [ld0, ld1, ld2, ld3, ld4]
  obtain rfl : y1 = 0 := Subsingleton.elim _ _
  refine (logMass_at _ _ _ _ _ _ _).trans ?_
  rw [blockRow_iblk]
  show outLp m c (ix2 (place t y0) 0) = _
  blk_ext [idx t, place]

end Cert.Proof.Ker

end
-- ==== Proof.KernelRun.lean ====
/- The kernel's run: what its three results hold, over the argument arrays. -/
module

public import proofs.«01_k».proof.Proof.KernelArray

@[expose] public section

set_option maxRecDepth 16384

noncomputable section

namespace Cert.Proof.Ker

open Idealize.ShloMosaic Idealize.ShloMosaic.TcCoe Idealize.SL.Sem
open Cert.KernelIdeal Cert.KernelIdeal.Gen
open Cert.Proof.Rows

variable (m : (ℓ : Loc nD τ sig) → Buf (Elt Ideal) ℓ)

/-- The second result: the pick of every row. -/
def resSel (c : Dev nD) : IVec S4096 32 := fun j => pick (rowOf m c (j 0))
/-- The third result: minus the logarithm of every row's mass. -/
def resLp (c : Dev nD) : FVec Ideal S4096 .f32 := fun j => 0 - logMass (rowOf m c (j 0))

/-- The second array's column, read as a vector. -/
theorem tail5 (c : Dev nD) : Pipeline.afterTail₀ cfgs (dats m) 0 (V0 m) [hostOps1] c main_v5 = resSel m c := by
  unfold Pipeline.afterTail₀
  show StableHlo.after [hostOps1].flatten _ (Proc.devRef .tc main_v5) = _
  after_reads_simp
  rw [show Pipeline.withArrays (cfgs 0).spec c (V0 m c) (fun w => (dats m 0 c).arrAt w (cfgs 0).N) (Proc.tc.devRef main_v4_1)
      = (dats m 0 c).arrAt 7 (cfgs 0).N from Pipeline.withArrays_arr (cfgs 0).spec (by decide) c _ _ 7, final7]
  funext j
  pointwise
  idx_vars j
  rfl

/-- The third array's column, read as a vector. -/
theorem tail6 (c : Dev nD) : Pipeline.afterTail₀ cfgs (dats m) 0 (V0 m) [hostOps1] c main_v6 = resLp m c := by
  unfold Pipeline.afterTail₀
  show StableHlo.after [hostOps1].flatten _ (Proc.devRef .tc main_v6) = _
  after_reads_simp
  rw [show Pipeline.withArrays (cfgs 0).spec c (V0 m c) (fun w => (dats m 0 c).arrAt w (cfgs 0).N) (Proc.tc.devRef main_v4_2)
      = (dats m 0 c).arrAt 8 (cfgs 0).N from Pipeline.withArrays_arr (cfgs 0).spec (by decide) c _ _ 8, final8]
  funext j
  pointwise
  idx_vars j
  rfl

/-- The kernel runs, leaves its arguments as they were, and ends with the rows' log-softmax, picks and log-probabilities. -/
theorem run (g : Dev nD → PrngReg) :
    θ_run (defs (F := Ideal)) (onTc (τ := τ) (main (F := Ideal))) ⟨m, fun _ => 0, g⟩ (fun r => ∀ c : Dev nD,
      r.2.mem (c.tc.loc main_v4_0) = outP m c
      ∧ r.2.mem (c.tc.loc main_v5) = resSel m c
      ∧ r.2.mem (c.tc.loc main_v6) = resLp m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) := by
  run_from Cert.KernelIdeal.Gen.run_main m g
  exacts [final6 m c, tail5 m c, tail6 m c, W_main_arg2 m (dats m) c, W_main_arg3 m (dats m) c, W_main_arg5 m (dats m) c,
    W_main_arg7 m (dats m) c]

end Cert.Proof.Ker

end
-- ==== Proof.Results.lean ====
/- The two programs' results at agreeing arguments: the same three arrays. -/
module

public import proofs.«01_k».proof.Proof.Equation
public import proofs.«01_k».proof.Proof.Finite
public import proofs.«01_k».proof.Proof.KernelRun

@[expose] public section

set_option maxRecDepth 16384

noncomputable section

namespace Cert.Proof.Results

open Idealize.ShloMosaic Idealize.ShloMosaic.TcCoe
open Cert.KernelIdeal
open Cert.Proof.Rows

variable (m : (ℓ : Loc nD τ sig) → Buf (Elt Ideal) ℓ) (c : Dev nD)

/-- What the value claim asks of one device's argument arrays: the precondition's function is set. -/
def Admits : Prop :=
  Cert.Pre_finite_without_biases.fn (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) ix0
    = 1#1

/-- The reference's log-softmax over the kernel's arguments. -/
def refP : FVec Ideal S4096x101 .f32 :=
  Ref.logSoftmax (Ref.scores (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)))

variable {m c}

/-- Every row of admitted arguments scores reals. -/
theorem row_real (h : Admits m c) (b : Fin 4096) (u : Fin 101) : IsReal (Ker.rowOf m c b u) := by
  obtain ⟨hw, he, h1, h2, _, _⟩ := Finite.of_fn _ _ _ _ _ _ _ _ h
  exact Rows.row_real (fun u => hw _) (share_real _) (fun d => he _) (fun k h => h1 _) (fun h => h2 _) u

/-- The reference's log-softmax of a row is the row's. -/
theorem refP_at (h : Admits m c) (b : Fin 4096) (u : Fin 101) : refP m c (ix2 b u) = logP (Ker.rowOf m c b) u := by
  obtain ⟨_, _, _, _, hb1, hb2⟩ := Finite.of_fn _ _ _ _ _ _ _ _ h
  unfold refP
  rw [Ref.logSoftmax_at]
  refine congrArg (fun r => logP r u) (funext fun v => ?_)
  exact Ref.scores_at _ _ _ _ _ _ _ _ hb1 hb2 b v

/-- The first results agree: the log-softmax. -/
theorem first (h : Admits m c) : refP m c = Ker.outP m c := by
  funext y
  idx_vars y
  exact refP_at h y0 y1

/-- The second results agree: the slots of the largest scores. -/
theorem second (h : Admits m c) : Ref.argmax (refP m c) = Ker.resSel m c := by
  funext y
  idx_vars y
  exact Equation.argmax_eq (row_real h y0) (refP_at h y0)

/-- The third results agree: the log-probabilities of those slots. -/
theorem third (h : Admits m c) : Ref.take (refP m c) (Ref.argmax (refP m c)) = Ker.resLp m c := by
  funext y
  idx_vars y
  exact Equation.take_eq (row_real h y0) (refP_at h y0)

end Cert.Proof.Results

end
-- ==== Proof.lean ====
/- The proof of the certificate's claims, assembled from the programs' runs and the equation of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_without_biases
public import Idealize.ShloMosaic.Adequacy
public import Idealize.ShloMosaic.Init
public import Idealize.ShloMosaic.Lib.Claim
public import Idealize.ShloMosaic.Lib.Quiescent
public import proofs.«01_k».proof.Proof.Results

@[expose] public section

set_option maxRecDepth 16384

noncomputable section

namespace Cert.Proof

open Idealize.ShloMosaic Idealize.SL.Sem Cert.Kernel

/-- The reference runs, leaves its arguments as they were and every counter at zero. -/
theorem quiescent_reference : quiescent_ReferenceIdeal := by
  intro m g _
  refine θ_run_mono (Ref.run m g) fun r hr => ⟨fun c => (hr c).2.2.2, ?_⟩
  exact sem_eq_zero_of_no_sems (by decide) _

/-- At admitted arguments the kernel's three results are the reference's. -/
theorem algebraic : algebraic_KernelIdeal_ReferenceIdeal_pre_finite_without_biases := by
  pair_intro
  · exact Ker.run m g
  · refine θ_run_mono (Ref.run m' g') fun r hr c => ?_
    have h : Results.Admits m c := congrFun (hpre c) ix0
    have hP : Ref.logP m' c = Results.refP m c := by
      unfold Ref.logP Results.refP
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
    have hc := hr c
    rw [hP] at hc
    exact ⟨hc.1.trans (Results.first h), hc.2.1.trans (Results.second h), hc.2.2.1.trans (Results.third h), hc.2.2.2⟩

/-- All the claims together. -/
theorem claim : Cert.Claim := ⟨Cert.Kernel.Gen.facts, Cert.KernelIdeal.Gen.facts, Cert.ReferenceIdeal.Gen.facts, Cert.Pre_finite_without_biases.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial, trivial, algebraic⟩

end Cert.Proof

end
